-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x3 : Shape := ⟨2, ![320000, 3]⟩
abbrev S320000x128 : Shape := ⟨2, ![320000, 128]⟩
abbrev S16 : Shape := ⟨1, ![16]⟩
abbrev S160000x256 : Shape := ⟨2, ![160000, 256]⟩
abbrev S160000x6 : Shape := ⟨2, ![160000, 6]⟩
abbrev S160000x128 : Shape := ⟨2, ![160000, 128]⟩
abbrev S160000x3 : Shape := ⟨2, ![160000, 3]⟩
abbrev S160000x2 : Shape := ⟨2, ![160000, 2]⟩
abbrev S640x256 : Shape := ⟨2, ![640, 256]⟩
abbrev S640x6 : Shape := ⟨2, ![640, 6]⟩
abbrev S640x128 : Shape := ⟨2, ![640, 128]⟩
abbrev S640x3 : Shape := ⟨2, ![640, 3]⟩
abbrev S640x2 : Shape := ⟨2, ![640, 2]⟩
abbrev S_ : Shape := ⟨0, ![]⟩
abbrev S320000 : Shape := ⟨1, ![320000]⟩

abbrev nBuf : Space → Nat
  | .hbm => 33
  | .vmem => 10
  | .smem => 0
  | _ => 0

abbrev bufTy : (tb : Table) → Fin (tcTables nBuf tb) → BufTy
  | .hbm, ⟨0, _⟩ => ⟨S320000x3, .f32⟩
  | .hbm, ⟨1, _⟩ => ⟨S320000x128, .f32⟩
  | .hbm, ⟨2, _⟩ => ⟨S16, .i32⟩
  | .hbm, ⟨3, _⟩ => ⟨S160000x256, .f32⟩
  | .hbm, ⟨4, _⟩ => ⟨S160000x6, .f32⟩
  | .hbm, ⟨5, _⟩ => ⟨S160000x128, .f32⟩
  | .hbm, ⟨6, _⟩ => ⟨S160000x3, .f32⟩
  | .hbm, ⟨7, _⟩ => ⟨S160000x2, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S16, .i1⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S16, .i32⟩
  | .hbm, ⟨32, _⟩ => ⟨S320000, .i32⟩
  | .local _ .vmem, ⟨0, _⟩ => ⟨S640x256, .f32⟩
  | .local _ .vmem, ⟨1, _⟩ => ⟨S640x256, .f32⟩
  | .local _ .vmem, ⟨2, _⟩ => ⟨S640x6, .f32⟩
  | .local _ .vmem, ⟨3, _⟩ => ⟨S640x6, .f32⟩
  | .local _ .vmem, ⟨4, _⟩ => ⟨S640x128, .f32⟩
  | .local _ .vmem, ⟨5, _⟩ => ⟨S640x128, .f32⟩
  | .local _ .vmem, ⟨6, _⟩ => ⟨S640x3, .f32⟩
  | .local _ .vmem, ⟨7, _⟩ => ⟨S640x3, .f32⟩
  | .local _ .vmem, ⟨8, _⟩ => ⟨S640x2, .i32⟩
  | .local _ .vmem, ⟨9, _⟩ => ⟨S640x2, .i32⟩
  | _, _ => ⟨S320000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_v8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S320000x3 : Shape := ⟨2, ![320000, 3]⟩
abbrev S320000x128 : Shape := ⟨2, ![320000, 128]⟩
abbrev S16 : Shape := ⟨1, ![16]⟩
abbrev S320000 : Shape := ⟨1, ![320000]⟩
abbrev S_ : Shape := ⟨0, ![]⟩
abbrev S160000 : Shape := ⟨1, ![160000]⟩
abbrev S1x320000x1 : Shape := ⟨3, ![1, 320000, 1]⟩
abbrev S160000x1x1 : Shape := ⟨3, ![160000, 1, 1]⟩
abbrev S160000x320000x1 : Shape := ⟨3, ![160000, 320000, 1]⟩
abbrev S1x320000x128 : Shape := ⟨3, ![1, 320000, 128]⟩
abbrev S160000x320000x128 : Shape := ⟨3, ![160000, 320000, 128]⟩
abbrev S160000x128 : Shape := ⟨2, ![160000, 128]⟩
abbrev S160000x3 : Shape := ⟨2, ![160000, 3]⟩
abbrev S320000x1 : Shape := ⟨2, ![320000, 1]⟩

abbrev nBuf : Space → Nat
  | .hbm => 68
  | .vmem => 0
  | .smem => 0
  | _ => 0

abbrev bufTy : (tb : Table) → Fin (tcTables nBuf tb) → BufTy
  | .hbm, ⟨0, _⟩ => ⟨S320000x3, .f32⟩
  | .hbm, ⟨1, _⟩ => ⟨S320000x128, .f32⟩
  | .hbm, ⟨2, _⟩ => ⟨S16, .i32⟩
  | .hbm, ⟨3, _⟩ => ⟨S320000, .i32⟩
  | .hbm, ⟨4, _⟩ => ⟨S_, .i32⟩
  | .hbm, ⟨5, _⟩ => ⟨S_, .i32⟩
  | .hbm, ⟨6, _⟩ => ⟨S320000, .i32⟩
  | .hbm, ⟨7, _⟩ => ⟨S320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S160000, .i32⟩
  | .hbm, ⟨23, _⟩ => ⟨S1x320000x1, .i32⟩
  | .hbm, ⟨24, _⟩ => ⟨S160000x1x1, .i32⟩
  | .hbm, ⟨25, _⟩ => ⟨S160000x320000x1, .i32⟩
  | .hbm, ⟨26, _⟩ => ⟨S160000x320000x1, .i32⟩
  | .hbm, ⟨27, _⟩ => ⟨S160000x320000x1, .i1⟩
  | .hbm, ⟨28, _⟩ => ⟨S1x320000x128, .f32⟩
  | .hbm, ⟨29, _⟩ => ⟨S_, .f32⟩
  | .hbm, ⟨30, _⟩ => ⟨S_, .f32⟩
  | .hbm, ⟨31, _⟩ => ⟨S160000x320000x128, .i1⟩
  | .hbm, ⟨32, _⟩ => ⟨S160000x320000x128, .f32⟩
  | .hbm, ⟨33, _⟩ => ⟨S160000x320000x128, .f32⟩
  | .hbm, ⟨34, _⟩ => ⟨S160000x320000x128, .f32⟩
  | .hbm, ⟨35, _⟩ => ⟨S_, .f32⟩
  | .hbm, ⟨36, _⟩ => ⟨S160000x128, .f32⟩
  | .hbm, ⟨37, _⟩ => ⟨S_, .f32⟩
  | .hbm, ⟨38, _⟩ => ⟨S160000x3, .f32⟩
  | .hbm, ⟨39, _⟩ => ⟨S320000x1, .i32⟩
  | .hbm, ⟨40, _⟩ => ⟨S160000x3, .f32⟩
  | .hbm, ⟨41, _⟩ => ⟨S_, .f32⟩
  | .hbm, ⟨42, _⟩ => ⟨S160000x3, .f32⟩
  | .hbm, ⟨43, _⟩ => ⟨S160000x3, .f32⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S16, .i32⟩
  | .hbm, ⟨59, _⟩ => ⟨S16, .i32⟩
  | .hbm, ⟨60, _⟩ => ⟨S_, .i32⟩
  | .hbm, ⟨61, _⟩ => ⟨S16, .i32⟩
  | .hbm, ⟨62, _⟩ => ⟨S16, .i1⟩
  | .hbm, ⟨63, _⟩ => ⟨S16, .i1⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S16, .i32⟩
  | _, _ => ⟨S320000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v20 : Ref sig .tc := ⟨.hbm, 67, rfl⟩

abbrev nD : Nat := 1
abbrev τ : Topo := Topo.v7x

variable {F : FTy → Type} [FloatOps F]
-- ==== Proof.Halves.lean ====
/-
  Facts about halves that name no program: the floor division of a small word by two, the numbers whose half is a given one,
  and a maximum and a sum in which only two terms count.
-/
module

public import Idealize.ShloMosaic.Lib.Pointwise

@[expose] public section

set_option maxRecDepth 16384

noncomputable section

namespace Cert.Pool

open Idealize.ShloMosaic

/-- Dividing a word below `2^31` by two, rounding toward zero, gives the word of the half. -/
theorem divsi_two (n : Nat) (hn : n < 2 ^ 31) : IntOp.divsi ArithUnit.host (BitVec.ofNat 32 n) 2#32 = BitVec.ofNat 32 (n / 2) := by
  have hm : (BitVec.ofNat 32 n).msb = false := by
    rw [BitVec.msb_eq_false_iff_two_mul_lt, BitVec.toNat_ofNat, Nat.mod_eq_of_lt (by omega)]; omega
  have hc : ¬ IntOp.SDivCorner (BitVec.ofNat 32 n) 2#32 := by
    rintro (h | ⟨_, h⟩) <;> exact absurd h (by decide)
  unfold IntOp.divsi
  rw [if_neg hc, BitVec.sdiv_eq, hm, show (2#32 : BitVec 32).msb = false from by decide]
  apply BitVec.eq_of_toNat_eq
  simp only [BitVec.udiv_eq, BitVec.toNat_udiv, BitVec.toNat_ofNat]
  rw [Nat.mod_eq_of_lt (show n < 2 ^ 32 by omega), Nat.mod_eq_of_lt (show n / 2 < 2 ^ 32 by omega)]

/-- The remainder of a word below `2^31` by two is the word of the parity. -/
theorem remsi_two (n : Nat) (hn : n < 2 ^ 31) : IntOp.remsi ArithUnit.host (BitVec.ofNat 32 n) 2#32 = BitVec.ofNat 32 (n % 2) := by
  have hm : (BitVec.ofNat 32 n).msb = false := by
    rw [BitVec.msb_eq_false_iff_two_mul_lt, BitVec.toNat_ofNat, Nat.mod_eq_of_lt (by omega)]; omega
  have hc : ¬ IntOp.SDivCorner (BitVec.ofNat 32 n) 2#32 := by
    rintro (h | ⟨_, h⟩) <;> exact absurd h (by decide)
  unfold IntOp.remsi
  rw [if_neg hc, BitVec.srem_eq, hm, show (2#32 : BitVec 32).msb = false from by decide]
  apply BitVec.eq_of_toNat_eq
  simp only [BitVec.umod_eq, BitVec.toNat_umod, BitVec.toNat_ofNat]
  rw [Nat.mod_eq_of_lt (show n < 2 ^ 32 by omega), Nat.mod_eq_of_lt (show n % 2 < 2 ^ 32 by omega)]

/-- The correction of a floor division (subtract one when the signs differ and the remainder is not zero) never applies to a word
    below `2^31` divided by two: the floor division gives the word of the half. -/
theorem floorDiv_two (n : Nat) (hn : n < 2 ^ 31) :
    Scalar.select
        (IntOp.andi
          (IntOp.cmpi .ne (if BitVec.ofNat 32 n = 0 then 0 else if (BitVec.ofNat 32 n).msb = true then -1 else 1)
            (if (2#32 : BitVec 32) = 0 then 0 else if (2#32 : BitVec 32).msb = true then -1 else (1 : BitVec 32)))
          (IntOp.cmpi .ne (IntOp.remsi ArithUnit.host (BitVec.ofNat 32 n) 2#32) 0#32))
        (IntOp.subi (IntOp.divsi ArithUnit.host (BitVec.ofNat 32 n) 2#32) 1#32)
        (IntOp.divsi ArithUnit.host (BitVec.ofNat 32 n) 2#32)
      = BitVec.ofNat 32 (n / 2) := by
  have hm : (BitVec.ofNat 32 n).msb = false := by
    rw [BitVec.msb_eq_false_iff_two_mul_lt, BitVec.toNat_ofNat, Nat.mod_eq_of_lt (by omega)]; omega
  rw [divsi_two n hn, remsi_two n hn, hm]
  rcases Nat.eq_zero_or_pos n with rfl | hp
  · decide
  · have h0 : ¬ (BitVec.ofNat 32 n = 0) := by
      intro h
      have := congrArg BitVec.toNat h
      rw [BitVec.toNat_ofNat, Nat.mod_eq_of_lt (by omega)] at this
      change n = 0 at this
      omega
    rw [if_neg h0]
    have e : ∀ x : BitVec 1, Scalar.select (IntOp.andi
        (IntOp.cmpi .ne (if false = true then -1 else 1)
          (if (2#32 : BitVec 32) = 0 then 0 else if (2#32 : BitVec 32).msb = true then -1 else (1 : BitVec 32))) x)
        (IntOp.subi (BitVec.ofNat 32 (n / 2)) 1#32) (BitVec.ofNat 32 (n / 2)) = BitVec.ofNat 32 (n / 2) := by
      intro x
      have : IntOp.andi (IntOp.cmpi .ne (if false = true then -1 else 1)
          (if (2#32 : BitVec 32) = 0 then 0 else if (2#32 : BitVec 32).msb = true then -1 else (1 : BitVec 32))) x = 0#1 := by
        revert x; decide
      rw [this]; rfl
    exact e _

/-- The words of two numbers below `2^31` are equal exactly when the numbers are. -/
theorem word_inj {a b : Nat} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The first point of segment `s`. -/
abbrev even (s : Fin 160000) : Fin 320000 := ⟨2 * s.val, by have := s.isLt; omega⟩

/-- The second point of segment `s`. -/
abbrev odd (s : Fin 160000) : Fin 320000 := ⟨2 * s.val + 1, by have := s.isLt; omega⟩

/-- The points whose half is `s` are the two points of segment `s`. -/
theorem half_eq_iff (s : Fin 160000) (j : Fin 320000) : j.val / 2 = s.val ↔ j = even s ∨ j = odd s := by
  rw [Fin.ext_iff, Fin.ext_iff]
  show j.val / 2 = s.val ↔ j.val = 2 * s.val ∨ j.val = 2 * s.val + 1
  omega

/-- A maximum, started at minus infinity, of a family that is minus infinity outside two places. -/
theorem fold_max_two {ι : Type} [Fintype ι] [DecidableEq ι] (p : ι → Prop) [DecidablePred p] (a b : ι) (hp : ∀ k, p k ↔ k = a ∨ k = b)
    (f : ι → EReal) : Finset.fold max ⊥ (fun k => if p k then f k else ⊥) Finset.univ = max (f a) (f b) := by
  apply le_antisymm
  · rw [Finset.fold_max_le]
    refine ⟨bot_le, fun k _ => ?_⟩
    by_cases h : p k
    · rw [if_pos h]
      rcases (hp k).1 h with rfl | rfl
      · exact le_max_left _ _
      · exact le_max_right _ _
    · rw [if_neg h]; exact bot_le
  · refine max_le ?_ ?_
    · rw [Finset.le_fold_max]
      exact Or.inr ⟨a, Finset.mem_univ _, by rw [if_pos ((hp a).2 (Or.inl rfl))]⟩
    · rw [Finset.le_fold_max]
      exact Or.inr ⟨b, Finset.mem_univ _, by rw [if_pos ((hp b).2 (Or.inr rfl))]⟩

/-- A sum over the members of a set that has exactly two. -/
theorem sum_filter_two {ι : Type} [Fintype ι] [DecidableEq ι] (p : ι → Prop) [DecidablePred p] (a b : ι) (hab : a ≠ b)
    (hp : ∀ k, p k ↔ k = a ∨ k = b) (f : ι → EReal) : ∑ k ∈ Finset.univ.filter p, f k = f a + f b := by
  have : Finset.univ.filter p = {a, b} := by
    ext k
    simp only [Finset.mem_filter, Finset.mem_univ, true_and, Finset.mem_insert, Finset.mem_singleton]
    exact hp k
  rw [this, Finset.sum_pair hab]

/-- The word of minus infinity. -/
theorem word_neg_inf : Ideal.ofBits .f32 0xFF800000#32 = ⊥ := by
  simp [Ideal.ofBits, Ideal.ieee]

/-- The word of two. -/
theorem word_two : Ideal.ofBits .f32 0x40000000#32 = ((2 : ℝ) : EReal) := by
  simp [Ideal.ofBits, Ideal.ieee]
  rw [← EReal.coe_mul]; norm_num

/-- The word of one half. -/
theorem word_half : Ideal.ofBits .f32 0x3F000000#32 = ((1 / 2 : ℝ) : EReal) := by
  simp [Ideal.ofBits, Ideal.ieee]
  rw [← EReal.coe_mul]; norm_num

/-- Dividing by two is multiplying by one half. -/
theorem div_two (x : EReal) : Ideal.div x (Ideal.ofBits .f32 0x40000000#32) = x * Ideal.ofBits .f32 0x3F000000#32 := by
  rw [word_two, word_half, Ideal.div_coe (by norm_num)]

end Cert.Pool

end
-- ==== Proof.RefValue.lean ====
/-
  What the reference computes, at one element: the segment ids are the halves of the point numbers, the maximum of a segment is
  the maximum of its two points, and the mean of a segment is the sum of its two points divided by two.
-/
module

public import proofs.«01_k».proof.Proof.Gen.ReferenceIdeal.Run
public import Idealize.ShloMosaic.Lib.Pointwise
public import Idealize.ShloMosaic.Lib.Routing.OpsPair
public import proofs.«01_k».proof.Proof.Halves

@[expose] public section

set_option maxRecDepth 16384

noncomputable section

namespace Cert.Pool

open Idealize.ShloMosaic Cert.ReferenceIdeal Cert.ReferenceIdeal.Gen

/-- The reference's segment ids: the point numbers, floor divided by two. -/
abbrev segIds : IVec S320000 32 :=
  select
    (andi
      (cmpi .ne (signi (iotaInDim S320000 32 0)) (broadcastInDim S320000 ![] bcast_S_S320000 (signi (id (constantI S_ 32 2#32)))))
      (cmpi .ne (Host.remsi (iotaInDim S320000 32 0) (broadcastInDim S320000 ![] bcast_S_S320000 (id (constantI S_ 32 2#32))))
        (broadcastInDim S320000 ![] bcast_S_S320000 (constantI S_ 32 0#32))))
    (subi (Host.divsi (iotaInDim S320000 32 0) (broadcastInDim S320000 ![] bcast_S_S320000 (id (constantI S_ 32 2#32))))
      (broadcastInDim S320000 ![] bcast_S_S320000 (constantI S_ 32 1#32)))
    (Host.divsi (iotaInDim S320000 32 0) (broadcastInDim S320000 ![] bcast_S_S320000 (id (constantI S_ 32 2#32))))

/-- The reference's maxima over the segments `w` of the features `x`. -/
abbrev refFeat (w : IVec S320000 32) (x : FVec Ideal S320000x128 .f32) : FVec Ideal S160000x128 .f32 :=
  Host.reduce FloatOps.maximumf
    (select
      (broadcastInDim S160000x320000x128 ![0, 1, 2] bcast_S160000x320000x1_S160000x320000x128_0_1_2
        (cmpi .eq
          (broadcastInDim S160000x320000x1 ![0, 1, 2] bcast_S1x320000x1_S160000x320000x1_0_1_2
            (broadcastInDim S1x320000x1 ![1] bcast_S320000_S1x320000x1_1 w))
          (broadcastInDim S160000x320000x1 ![0, 1, 2] bcast_S160000x1x1_S160000x320000x1_0_1_2
            (broadcastInDim S160000x1x1 ![0] bcast_S160000_S160000x1x1_0 (iotaInDim S160000 32 0)))))
      (broadcastInDim S160000x320000x128 ![0, 1, 2] bcast_S1x320000x128_S160000x320000x128_0_1_2
        (broadcastInDim S1x320000x128 ![1, 2] bcast_S320000x128_S1x320000x128_1_2 x))
      (broadcastInDim S160000x320000x128 ![] bcast_S_S160000x320000x128 (id (constant S_ .f32 0xFF800000#32))))
    (constant S_ .f32 0xFF800000#32) reducesTo_S160000x320000x128_S160000x128_d1 h_S_

/-- The reference's means over the segments `w` of the coordinates `x`. -/
abbrev refCoord (w : IVec S320000 32) (x : FVec Ideal S320000x3 .f32) : FVec Ideal S160000x3 .f32 :=
  Host.divf
    (Host.scatterAdd scatter_S160000x3_S320000x1_S320000x3_1_0_0_1
      (broadcastInDim S160000x3 ![] bcast_S_S160000x3 (constant S_ .f32 0x00000000#32))
      (broadcastInDim S320000x1 ![0] bcast_S320000_S320000x1_0 w) x)
    (broadcastInDim S160000x3 ![] bcast_S_S160000x3 (constant S_ .f32 0x40000000#32))

/-- The segment id of a point is the word of its half. -/
theorem segIds_apply (j : Fin 320000) : segIds (ix1 j) = BitVec.ofNat 32 (j.val / 2) := by
  pointwise
  exact floorDiv_two j.val (by have := j.isLt; omega)

/-- A point has segment id `s` exactly when it is one of the two points of segment `s`. -/
theorem segIds_eq_iff (s : Fin 160000) (j : Fin 320000) : segIds (ix1 j) = BitVec.ofNat 32 s.val ↔ j = even s ∨ j = odd s := by
  rw [segIds_apply, word_inj (by have := j.isLt; omega) (by have := s.isLt; omega)]
  exact half_eq_iff s j

/-- A choice by an equality of words is the choice by the equality. -/
theorem select_cmpi_eq {α : Type} (x y : BitVec 32) (a b : α) : Scalar.select (IntOp.cmpi .eq x y) a b = if x = y then a else b := by
  by_cases h : x = y
  · subst h; simp [IntOp.cmpi, Scalar.select]
  · rw [if_neg h]
    show Scalar.select (BitVec.ofBool (x == y)) a b = b
    rw [beq_eq_false_iff_ne.2 h]; rfl

/-- The reference's maximum of a segment is the maximum of its two points. -/
theorem refFeat_apply (x : FVec Ideal S320000x128 .f32) (s : Fin 160000) (d : Fin 128) :
    refFeat segIds x (ix2 s d) = max (x (ix2 (even s) d)) (x (ix2 (odd s) d)) := by
  have h : ∀ w : IVec S320000 32, refFeat w x (ix2 s d)
      = Finset.fold max (Ideal.ofBits .f32 0xFF800000#32)
          (fun k : Fin 320000 => Scalar.select (IntOp.cmpi .eq (w (ix1 k)) (BitVec.ofNat 32 s.val)) (x (ix2 k d))
            (Ideal.ofBits .f32 0xFF800000#32)) Finset.univ := by
    intro w
    pointwise
    rfl
  rw [h segIds, word_neg_inf]
  simp only [select_cmpi_eq]
  exact fold_max_two _ _ _ (segIds_eq_iff s) _

/-- The coordinates of point `j` go to the segment the id of `j` names. -/
theorem lands_iff (w : IVec S320000 32) (j : Fin 320000) (d d' : Fin 3) (s : Fin 160000) :
    scatter_S160000x3_S320000x1_S320000x3_1_0_0_1.resultIdx? (ix2 j d) (broadcastInDim S320000x1 ![0] bcast_S320000_S320000x1_0 w)
        = some (ix2 s d')
      ↔ (w (ix1 j)).toInt = s.val ∧ d = d' := by
  rw [Routing.resultIdx?_eq_some]
  have h0 : scatter_S160000x3_S320000x1_S320000x3_1_0_0_1.start (ix2 j d) (broadcastInDim S320000x1 ![0] bcast_S320000_S320000x1_0 w) 0
      = (w (ix1 j)).toInt := by
    refine congrArg (fun i => (w i).toInt) (funext fun a => ?_)
    match a with
    | ⟨0, _⟩ => rfl
  have h1 : scatter_S160000x3_S320000x1_S320000x3_1_0_0_1.start (ix2 j d) (broadcastInDim S320000x1 ![0] bcast_S320000_S320000x1_0 w) 1
      = 0 := rfl
  have w0 : scatter_S160000x3_S320000x1_S320000x3_1_0_0_1.window (ix2 j d) 0 = 0 := rfl
  have w1 : scatter_S160000x3_S320000x1_S320000x3_1_0_0_1.window (ix2 j d) 1 = d.val := rfl
  constructor
  · intro h
    have a0 := h 0
    have a1 := h 1
    rw [h0, w0] at a0
    rw [h1, w1] at a1
    change (w (ix1 j)).toInt + ((0 : Nat) : Int) = (s.val : Int) at a0
    change (0 : Int) + (d.val : Int) = (d'.val : Int) at a1
    exact ⟨by omega, Fin.ext (by omega)⟩
  · rintro ⟨ha, rfl⟩ a
    match a with
    | ⟨0, _⟩ =>
      show scatter_S160000x3_S320000x1_S320000x3_1_0_0_1.start (ix2 j d) _ 0 + ((scatter_S160000x3_S320000x1_S320000x3_1_0_0_1.window (ix2 j d) 0 : Nat) : Int) = (s.val : Int)
      rw [h0, w0, ha]; omega
    | ⟨1, _⟩ =>
      show scatter_S160000x3_S320000x1_S320000x3_1_0_0_1.start (ix2 j d) _ 1 + ((scatter_S160000x3_S320000x1_S320000x3_1_0_0_1.window (ix2 j d) 1 : Nat) : Int) = (d.val : Int)
      rw [h1, w1]; omega

/-- The signed value of the word of a small number is the number. -/
theorem toInt_word (n : Nat) (hn : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The updates that go to a coordinate of a segment are that coordinate of its two points. -/
theorem lands_segIds_iff (s : Fin 160000) (d : Fin 3) (k : S320000x3.Idx) :
    scatter_S160000x3_S320000x1_S320000x3_1_0_0_1.resultIdx? k (broadcastInDim S320000x1 ![0] bcast_S320000_S320000x1_0 segIds)
        = some (ix2 s d)
      ↔ k = ix2 (even s) d ∨ k = ix2 (odd s) d := by
  idx_vars k
  rw [lands_iff, segIds_apply, toInt_word _ (by have := k0.isLt; omega), ix2_inj, ix2_inj]
  have := half_eq_iff s k0
  constructor
  · rintro ⟨h, rfl⟩
    rcases this.1 (by exact_mod_cast h) with h | h
    · exact Or.inl ⟨h, rfl⟩
    · exact Or.inr ⟨h, rfl⟩
  · rintro (⟨h, rfl⟩ | ⟨h, rfl⟩)
    · exact ⟨by exact_mod_cast this.2 (Or.inl h), rfl⟩
    · exact ⟨by exact_mod_cast this.2 (Or.inr h), rfl⟩

/-- The reference's mean of a segment is the sum of its two points times one half. -/
theorem refCoord_apply (x : FVec Ideal S320000x3 .f32) (s : Fin 160000) (d : Fin 3) :
    refCoord segIds x (ix2 s d) = (x (ix2 (even s) d) + x (ix2 (odd s) d)) * Ideal.ofBits .f32 0x3F000000#32 := by
  have h : refCoord segIds x (ix2 s d)
      = Ideal.div (Ideal.ofBits .f32 0x00000000#32
          + ∑ k ∈ Finset.univ.filter (fun k => scatter_S160000x3_S320000x1_S320000x3_1_0_0_1.resultIdx? k
              (broadcastInDim S320000x1 ![0] bcast_S320000_S320000x1_0 segIds) = some (ix2 s d)), x k)
          (Ideal.ofBits .f32 0x40000000#32) := rfl
  rw [h, div_two, sum_filter_two _ (ix2 (even s) d) (ix2 (odd s) d) ?_ (lands_segIds_iff s d) x, Ideal.ofBits_zero_f32, zero_add]
  rw [Ne, ix2_inj]
  rintro ⟨h, _⟩
  have := congrArg Fin.val h
  change 2 * s.val = 2 * s.val + 1 at this
  omega

end Cert.Pool

end
-- ==== Proof.Block.lean ====
/-
  What one block of the kernel computes, at one element: each row holds the two points of a segment side by side, and the body takes
  the maximum of the two halves, half the sum of the two halves, and the number of the row's segment.
-/
module

public import proofs.«01_k».proof.Proof.Gen.KernelIdeal.Skeleton
public import Idealize.ShloMosaic.Lib.Pointwise

@[expose] public section

set_option maxRecDepth 16384

noncomputable section

namespace Cert.Pool

open Idealize.ShloMosaic Cert.KernelIdeal Cert.KernelIdeal.Gen

/-- Column `d` of the first half of a feature row. -/
abbrev featLo (d : Fin 128) : Fin 256 := ⟨d.val, by have := d.isLt; omega⟩
/-- Column `d` of the second half of a feature row. -/
abbrev featHi (d : Fin 128) : Fin 256 := ⟨128 + d.val, by have := d.isLt; omega⟩
/-- Column `d` of the first half of a coordinate row. -/
abbrev coordLo (d : Fin 3) : Fin 6 := ⟨d.val, by have := d.isLt; omega⟩
/-- Column `d` of the second half of a coordinate row. -/
abbrev coordHi (d : Fin 3) : Fin 6 := ⟨3 + d.val, by have := d.isLt; omega⟩

/-- The block's maxima: the maximum of the two halves of the row. -/
theorem block_feat (x : Vec Ideal S640x256 .f32) (r : Fin 640) (d : Fin 128) :
    k0_pay1 (F := Ideal) x (ix2 r d) = max (x (ix2 r (featLo d))) (x (ix2 r (featHi d))) := by
  pointwise [k0_pay1]

/-- The block's means: the sum of the two halves of the row, times one half. -/
theorem block_coord (x : Vec Ideal S640x6 .f32) (r : Fin 640) (d : Fin 3) :
    k0_pay2 (F := Ideal) x (ix2 r d)
      = (x (ix2 r (coordLo d)) + x (ix2 r (coordHi d))) * Ideal.ofBits .f32 0x3F000000#32 := by
  pointwise [k0_pay2]

/-- The block's segment numbers: 640 rows per block, counted from the block's first row. -/
theorem block_ids (i : grid0.Coords) (r : Fin 640) (e : Fin 2) :
    k0_pay3 i (ix2 r e) = BitVec.ofNat 32 (640 * (i 0).val + r.val) := by
  pointwise [k0_pay3]
  show BitVec.ofNat 32 (i 0).val * 640#32 + BitVec.ofNat 32 r.val = _
  rw [← BitVec.ofNat_mul, ← BitVec.ofNat_add, Nat.mul_comm]

end Cert.Pool

end
-- ==== Proof.Arrays.lean ====
/-
  What the kernel's three result arrays hold after all blocks: each is one function of the two arrays the blocks are read from, since
  block `t` of a result reads only rows `640 t` to `640 t + 639`, and the 250 blocks tile the 160000 rows.
-/
module

public import proofs.«01_k».proof.Proof.Gen.KernelIdeal.Frame
public import Idealize.ShloMosaic.Lib.Pipeline.Value
public import proofs.«01_k».proof.Proof.Block

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The row maxima of an array of feature pairs. -/
def pairFeat (x : Vec Ideal S160000x256 .f32) : Vec Ideal S160000x128 .f32 :=
  fun i => max (x (ix2 (i 0) (featLo (i 1)))) (x (ix2 (i 0) (featHi (i 1))))

/-- The row means of an array of coordinate pairs. -/
def pairCoord (x : Vec Ideal S160000x6 .f32) : Vec Ideal S160000x3 .f32 :=
  fun i => (x (ix2 (i 0) (coordLo (i 1))) + x (ix2 (i 0) (coordHi (i 1)))) * Ideal.ofBits .f32 0x3F000000#32

/-- The row numbers, twice each. -/
def pairIds : Vec Ideal S160000x2 .i32 := fun i => BitVec.ofNat 32 (i 0).val

theorem hz : (![0, 0] : Fin 2 → Nat) = fun _ => 0 := funext fun a => by fin_cases a <;> rfl

/-- The grid has 250 points. -/
theorem lt_250 (t : Fin cfg0.N) : t.val < 250 := by
  have h : t.val < cfg0.N := t.isLt
  have hN : cfg0.N = 250 := N_0
  omega

/-- A point's one coordinate is its number. -/
theorem coord_eq : ∀ t : Fin cfg0.N, (grid0.coords t 0).val = t.val := by decide +kernel

/-- Every window takes block `t` of the rows and all columns. -/
theorem idx_eq : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) := by decide +kernel

/-- Row `r` of block `t`. -/
abbrev rowAt (t : Fin cfg0.N) (r : Fin 640) : Fin 160000 := ⟨t.val * 640 + 1 * r.val, by have := lt_250 t; have := r.isLt; omega⟩

/-- A block of feature pairs, at an element. -/
theorem featIn_read (x : Vec Ideal S160000x256 .f32) (t : Fin cfg0.N) (r : Fin 640) (d : Fin 256) :
    (win0_0.blk t).view.read (Elt Ideal) x (ix2 r d) = x (ix2 (rowAt t r) d) := by
  refine congrArg x (funext fun a => Fin.ext ?_)
  match a with
  | ⟨0, _⟩ =>
    show win0_0.index t 0 * 640 + 1 * r.val = t.val * 640 + 1 * r.val
    rw [(idx_eq t).1.1]
  | ⟨1, _⟩ =>
    show win0_0.index t 1 * 256 + 1 * d.val = d.val
    rw [(idx_eq t).1.2]; omega

/-- A block of the maxima, at an element. -/
theorem featOut_read (x : Vec Ideal S160000x128 .f32) (t : Fin cfg0.N) (r : Fin 640) (d : Fin 128) :
    (win0_2.blk t).view.read (Elt Ideal) x (ix2 r d) = x (ix2 (rowAt t r) d) := by
  refine congrArg x (funext fun a => Fin.ext ?_)
  match a with
  | ⟨0, _⟩ =>
    show win0_2.index t 0 * 640 + 1 * r.val = t.val * 640 + 1 * r.val
    rw [(idx_eq t).2.2.1.1]
  | ⟨1, _⟩ =>
    show win0_2.index t 1 * 128 + 1 * d.val = d.val
    rw [(idx_eq t).2.2.1.2]; omega

/-- What point `t` writes back of the maxima is block `t` of the row maxima. -/
theorem flushed_feat (c : Dev nD) (t : Fin cfg0.N) :
    (dats m 0 c).flushed 2 t = (win0_2.blk t).view.read (Elt Ideal) (pairFeat (V m c main_v0)) := by
  show (cfg0.win 2).cut (grid0.coords t) ((dats m 0 c).after 2 t) = _
  rw [after0_2]
  unfold out0_2
  rw [View.canon_unit_zero hz, View.ld_unit_zero hz]
  funext j
  idx_vars j
  rw [featOut_read]
  show k0_pay1 (iblk m c 0 t) (ix2 j0 j1) = _
  rw [block_feat]
  unfold iblk pairFeat
  exact congrArg₂ max (featIn_read _ t j0 _) (featIn_read _ t j0 _)

/-- A row is in block `t` of the maxima exactly when it is one of the block's 640 rows. -/
theorem mem_feat (t : Fin cfg0.N) (i : S160000x128.Idx) :
    i ∈ ((cfg0.win 2).blk t).view.set ↔ t.val * 640 ≤ (i 0 : Nat) ∧ (i 0 : Nat) < t.val * 640 + 640 := by
  show i ∈ ((View.whole main_v2_0).slice (win0_2.rect t)).set ↔ _
  rw [View.set_slice_whole, Rect.mem_set_unit]
  have h1 : (i 1 : Nat) < 128 := (i 1).isLt
  obtain ⟨e0, e1⟩ := (idx_eq t).2.2.1
  refine ⟨fun h => ?_, fun h a => ?_⟩
  · have h0 : win0_2.index t 0 * 640 ≤ (i 0 : Nat) ∧ (i 0 : Nat) < win0_2.index t 0 * 640 + 640 := h 0
    rw [e0] at h0; exact h0
  · match a with
    | ⟨0, _⟩ =>
      show win0_2.index t 0 * 640 ≤ (i 0 : Nat) ∧ (i 0 : Nat) < win0_2.index t 0 * 640 + 640
      rw [e0]; exact h
    | ⟨1, _⟩ =>
      show win0_2.index t 1 * 128 ≤ (i 1 : Nat) ∧ (i 1 : Nat) < win0_2.index t 1 * 128 + 128
      rw [e1]; omega

/-- The block that holds row `r`. -/
theorem exists_block (r : Nat) (hr : r < 160000) : ∃ t : Fin cfg0.N, t.val * 640 ≤ r ∧ r < t.val * 640 + 640 :=
  ⟨⟨r / 640, by show _ < grid0.N; rw [N_0]; omega⟩, by show r / 640 * 640 ≤ r; omega, by show r < r / 640 * 640 + 640; omega⟩

/-- The maxima after all blocks are the row maxima. -/
theorem final_feat (c : Dev nD) : (dats m 0 c).arrAt 2 cfg0.N = pairFeat (V m c main_v0) :=
  (dats m 0 c).arrAt_eq_of_cover 2 _ (fun t _ => flushed_feat m c t) fun i => by
    obtain ⟨t, ht⟩ := exists_block (i 0).val (i 0).isLt
    exact ⟨t, flush0_2 t, (mem_feat t i).2 ht⟩

/-- A block of coordinate pairs, at an element. -/
theorem coordIn_read (x : Vec Ideal S160000x6 .f32) (t : Fin cfg0.N) (r : Fin 640) (d : Fin 6) :
    (win0_1.blk t).view.read (Elt Ideal) x (ix2 r d) = x (ix2 (rowAt t r) d) := by
  refine congrArg x (funext fun a => Fin.ext ?_)
  match a with
  | ⟨0, _⟩ =>
    show win0_1.index t 0 * 640 + 1 * r.val = t.val * 640 + 1 * r.val
    rw [(idx_eq t).2.1.1]
  | ⟨1, _⟩ =>
    show win0_1.index t 1 * 6 + 1 * d.val = d.val
    rw [(idx_eq t).2.1.2]; omega

/-- A block of the means, at an element. -/
theorem coordOut_read (x : Vec Ideal S160000x3 .f32) (t : Fin cfg0.N) (r : Fin 640) (d : Fin 3) :
    (win0_3.blk t).view.read (Elt Ideal) x (ix2 r d) = x (ix2 (rowAt t r) d) := by
  refine congrArg x (funext fun a => Fin.ext ?_)
  match a with
  | ⟨0, _⟩ =>
    show win0_3.index t 0 * 640 + 1 * r.val = t.val * 640 + 1 * r.val
    rw [(idx_eq t).2.2.2.1.1]
  | ⟨1, _⟩ =>
    show win0_3.index t 1 * 3 + 1 * d.val = d.val
    rw [(idx_eq t).2.2.2.1.2]; omega

/-- What point `t` writes back of the means is block `t` of the row means. -/
theorem flushed_coord (c : Dev nD) (t : Fin cfg0.N) :
    (dats m 0 c).flushed 3 t = (win0_3.blk t).view.read (Elt Ideal) (pairCoord (V m c main_v1)) := by
  show (cfg0.win 3).cut (grid0.coords t) ((dats m 0 c).after 3 t) = _
  rw [after0_3]
  unfold out0_3
  rw [View.canon_unit_zero hz, View.ld_unit_zero hz]
  funext j
  idx_vars j
  rw [coordOut_read]
  show k0_pay2 (iblk m c 1 t) (ix2 j0 j1) = _
  rw [block_coord]
  unfold iblk pairCoord
  exact congrArg₂ (fun a b : EReal => (a + b) * Ideal.ofBits .f32 0x3F000000#32) (coordIn_read _ t j0 _) (coordIn_read _ t j0 _)

/-- A row is in block `t` of the means exactly when it is one of the block's 640 rows. -/
theorem mem_coord (t : Fin cfg0.N) (i : S160000x3.Idx) :
    i ∈ ((cfg0.win 3).blk t).view.set ↔ t.val * 640 ≤ (i 0 : Nat) ∧ (i 0 : Nat) < t.val * 640 + 640 := by
  show i ∈ ((View.whole main_v2_1).slice (win0_3.rect t)).set ↔ _
  rw [View.set_slice_whole, Rect.mem_set_unit]
  have h1 : (i 1 : Nat) < 3 := (i 1).isLt
  obtain ⟨e0, e1⟩ := (idx_eq t).2.2.2.1
  refine ⟨fun h => ?_, fun h a => ?_⟩
  · have h0 : win0_3.index t 0 * 640 ≤ (i 0 : Nat) ∧ (i 0 : Nat) < win0_3.index t 0 * 640 + 640 := h 0
    rw [e0] at h0; exact h0
  · match a with
    | ⟨0, _⟩ =>
      show win0_3.index t 0 * 640 ≤ (i 0 : Nat) ∧ (i 0 : Nat) < win0_3.index t 0 * 640 + 640
      rw [e0]; exact h
    | ⟨1, _⟩ =>
      show win0_3.index t 1 * 3 ≤ (i 1 : Nat) ∧ (i 1 : Nat) < win0_3.index t 1 * 3 + 3
      rw [e1]; omega

/-- The means after all blocks are the row means. -/
theorem final_coord (c : Dev nD) : (dats m 0 c).arrAt 3 cfg0.N = pairCoord (V m c main_v1) :=
  (dats m 0 c).arrAt_eq_of_cover 3 _ (fun t _ => flushed_coord m c t) fun i => by
    obtain ⟨t, ht⟩ := exists_block (i 0).val (i 0).isLt
    exact ⟨t, flush0_3 t, (mem_coord t i).2 ht⟩

/-- A block of the segment numbers, at an element. -/
theorem idsOut_read (x : Vec Ideal S160000x2 .i32) (t : Fin cfg0.N) (r : Fin 640) (d : Fin 2) :
    (win0_4.blk t).view.read (Elt Ideal) x (ix2 r d) = x (ix2 (rowAt t r) d) := by
  refine congrArg x (funext fun a => Fin.ext ?_)
  match a with
  | ⟨0, _⟩ =>
    show win0_4.index t 0 * 640 + 1 * r.val = t.val * 640 + 1 * r.val
    rw [(idx_eq t).2.2.2.2.1]
  | ⟨1, _⟩ =>
    show win0_4.index t 1 * 2 + 1 * d.val = d.val
    rw [(idx_eq t).2.2.2.2.2]; omega

/-- What point `t` writes back of the segment numbers is block `t` of the row numbers. -/
theorem flushed_ids (c : Dev nD) (t : Fin cfg0.N) :
    (dats m 0 c).flushed 4 t = (win0_4.blk t).view.read (Elt Ideal) pairIds := by
  show (cfg0.win 4).cut (grid0.coords t) ((dats m 0 c).after 4 t) = _
  rw [after0_4]
  unfold out0_4
  rw [View.canon_unit_zero hz]
  funext j
  idx_vars j
  rw [idsOut_read]
  show k0_pay3 (grid0.coords t) (ix2 j0 j1) = _
  rw [block_ids, coord_eq]
  show BitVec.ofNat 32 (640 * t.val + j0.val) = BitVec.ofNat 32 (t.val * 640 + 1 * j0.val)
  rw [Nat.mul_comm, Nat.one_mul]

/-- A row is in block `t` of the segment numbers exactly when it is one of the block's 640 rows. -/
theorem mem_ids (t : Fin cfg0.N) (i : S160000x2.Idx) :
    i ∈ ((cfg0.win 4).blk t).view.set ↔ t.val * 640 ≤ (i 0 : Nat) ∧ (i 0 : Nat) < t.val * 640 + 640 := by
  show i ∈ ((View.whole main_v2_2).slice (win0_4.rect t)).set ↔ _
  rw [View.set_slice_whole, Rect.mem_set_unit]
  have h1 : (i 1 : Nat) < 2 := (i 1).isLt
  obtain ⟨e0, e1⟩ := (idx_eq t).2.2.2.2
  refine ⟨fun h => ?_, fun h a => ?_⟩
  · have h0 : win0_4.index t 0 * 640 ≤ (i 0 : Nat) ∧ (i 0 : Nat) < win0_4.index t 0 * 640 + 640 := h 0
    rw [e0] at h0; exact h0
  · match a with
    | ⟨0, _⟩ =>
      show win0_4.index t 0 * 640 ≤ (i 0 : Nat) ∧ (i 0 : Nat) < win0_4.index t 0 * 640 + 640
      rw [e0]; exact h
    | ⟨1, _⟩ =>
      show win0_4.index t 1 * 2 ≤ (i 1 : Nat) ∧ (i 1 : Nat) < win0_4.index t 1 * 2 + 2
      rw [e1]; omega

/-- The segment numbers after all blocks are the row numbers. -/
theorem final_ids (c : Dev nD) : (dats m 0 c).arrAt 4 cfg0.N = pairIds :=
  (dats m 0 c).arrAt_eq_of_cover 4 _ (fun t _ => flushed_ids m c t) fun i => by
    obtain ⟨t, ht⟩ := exists_block (i 0).val (i 0).isLt
    exact ⟨t, flush0_4 t, (mem_ids t i).2 ht⟩

end Cert.Pool

end
-- ==== Proof.KernelValue.lean ====
/-
  What the kernel's run leaves in its four results, from its arguments: the reshapes before the blocks put the two points of a segment
  side by side in a row, and the operations after them halve the separators and lay the segment numbers out one per point.
-/
module

public import proofs.«01_k».proof.Proof.Arrays
public import Idealize.ShloMosaic.Lib.StableHlo.ReadAt
public import proofs.«01_k».proof.Proof.Halves

@[expose] public section

set_option maxRecDepth 16384

noncomputable section

namespace Cert.Pool

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The separators plus two minus one, floor divided by two. -/
abbrev halfSeps (x : IVec S16 32) : IVec S16 32 :=
  select
    (andi
      (cmpi .ne (signi (subi (addi x (broadcastInDim S16 ![] bcast_S_S16 (constantI S_ 32 2#32)))
          (broadcastInDim S16 ![] bcast_S_S16 (constantI S_ 32 1#32))))
        (broadcastInDim S16 ![] bcast_S_S16 (signi (id (constantI S_ 32 2#32)))))
      (cmpi .ne (Host.remsi (subi (addi x (broadcastInDim S16 ![] bcast_S_S16 (constantI S_ 32 2#32)))
          (broadcastInDim S16 ![] bcast_S_S16 (constantI S_ 32 1#32)))
          (broadcastInDim S16 ![] bcast_S_S16 (id (constantI S_ 32 2#32))))
        (broadcastInDim S16 ![] bcast_S_S16 (constantI S_ 32 0#32))))
    (subi (Host.divsi (subi (addi x (broadcastInDim S16 ![] bcast_S_S16 (constantI S_ 32 2#32)))
        (broadcastInDim S16 ![] bcast_S_S16 (constantI S_ 32 1#32)))
        (broadcastInDim S16 ![] bcast_S_S16 (id (constantI S_ 32 2#32))))
      (broadcastInDim S16 ![] bcast_S_S16 (constantI S_ 32 1#32)))
    (Host.divsi (subi (addi x (broadcastInDim S16 ![] bcast_S_S16 (constantI S_ 32 2#32)))
      (broadcastInDim S16 ![] bcast_S_S16 (constantI S_ 32 1#32)))
      (broadcastInDim S16 ![] bcast_S_S16 (id (constantI S_ 32 2#32))))

/-- For each segment the maximum of its two points. -/
def segFeat (x : Vec Ideal S320000x128 .f32) : Vec Ideal S160000x128 .f32 :=
  fun i => max (x (ix2 (even (i 0)) (i 1))) (x (ix2 (odd (i 0)) (i 1)))

/-- For each segment the mean of its two points. -/
def segCoord (x : Vec Ideal S320000x3 .f32) : Vec Ideal S160000x3 .f32 :=
  fun i => (x (ix2 (even (i 0)) (i 1)) + x (ix2 (odd (i 0)) (i 1))) * Ideal.ofBits .f32 0x3F000000#32

/-- For each point the number of its segment. -/
def pointIds : Vec Ideal S320000 .i32 := fun j => BitVec.ofNat 32 ((j 0).val / 2)

/-- Row `s` of the feature pairs holds point `2 s` in its first half. -/
theorem featPair_lo (c : Dev nD) (s : Fin 160000) (d : Fin 128) :
    V m c main_v0 (ix2 s (featLo d)) = m ((c : Thread nD τ).loc main_arg1) (ix2 (even s) d) := by
  unfold V V0
  after_reads_at
  refine congrArg (m ((c : Thread nD τ).loc main_arg1)) ((ix2_inj _ _ _ _).2 ⟨Fin.ext ?_, Fin.ext ?_⟩)
  · have := d.isLt
    show s.val * 2 + d.val / 128 = 2 * s.val
    omega
  · have := d.isLt
    show d.val % 128 = d.val
    omega

/-- Row `s` of the feature pairs holds point `2 s + 1` in its second half. -/
theorem featPair_hi (c : Dev nD) (s : Fin 160000) (d : Fin 128) :
    V m c main_v0 (ix2 s (featHi d)) = m ((c : Thread nD τ).loc main_arg1) (ix2 (odd s) d) := by
  unfold V V0
  after_reads_at
  refine congrArg (m ((c : Thread nD τ).loc main_arg1)) ((ix2_inj _ _ _ _).2 ⟨Fin.ext ?_, Fin.ext ?_⟩)
  · have := d.isLt
    show s.val * 2 + (128 + d.val) / 128 = 2 * s.val + 1
    omega
  · have := d.isLt
    show (128 + d.val) % 128 = d.val
    omega

/-- Row `s` of the coordinate pairs holds point `2 s` in its first half. -/
theorem coordPair_lo (c : Dev nD) (s : Fin 160000) (d : Fin 3) :
    V m c main_v1 (ix2 s (coordLo d)) = m ((c : Thread nD τ).loc main_arg0) (ix2 (even s) d) := by
  unfold V V0
  after_reads_at
  refine congrArg (m ((c : Thread nD τ).loc main_arg0)) ((ix2_inj _ _ _ _).2 ⟨Fin.ext ?_, Fin.ext ?_⟩)
  · have := d.isLt
    show s.val * 2 + d.val / 3 = 2 * s.val
    omega
  · have := d.isLt
    show d.val % 3 = d.val
    omega

/-- Row `s` of the coordinate pairs holds point `2 s + 1` in its second half. -/
theorem coordPair_hi (c : Dev nD) (s : Fin 160000) (d : Fin 3) :
    V m c main_v1 (ix2 s (coordHi d)) = m ((c : Thread nD τ).loc main_arg0) (ix2 (odd s) d) := by
  unfold V V0
  after_reads_at
  refine congrArg (m ((c : Thread nD τ).loc main_arg0)) ((ix2_inj _ _ _ _).2 ⟨Fin.ext ?_, Fin.ext ?_⟩)
  · have := d.isLt
    show s.val * 2 + (3 + d.val) / 3 = 2 * s.val + 1
    omega
  · have := d.isLt
    show (3 + d.val) % 3 = d.val
    omega

/-- The separators after the run. -/
theorem tail_seps (W : Valuation τ sig (Elt Ideal)) :
    StableHlo.after (List.flatten [hostOps1, hostOps1_1, hostOps1_2]) W (Proc.devRef .tc main_v7)
      = halfSeps (W (Proc.devRef .tc main_arg2)) := by
  after_reads_simp
  rfl

/-- The segment numbers after the run, one per point. -/
theorem tail_ids (W : Valuation τ sig (Elt Ideal)) (j : Fin 320000) :
    StableHlo.after (List.flatten [hostOps1, hostOps1_1, hostOps1_2]) W (Proc.devRef .tc main_v8) (ix1 j)
      = W (Proc.devRef .tc main_v2_2) (ix2 ⟨j.val / 2, by have := j.isLt; omega⟩ ⟨j.val % 2, by omega⟩) := by
  after_reads_at

/-- The maxima the kernel leaves. -/
theorem feat_value (c : Dev nD) : pairFeat (V m c main_v0) = segFeat (m ((c : Thread nD τ).loc main_arg1)) := by
  funext i
  exact congrArg₂ max (featPair_lo m c (i 0) (i 1)) (featPair_hi m c (i 0) (i 1))

/-- The means the kernel leaves. -/
theorem coord_value (c : Dev nD) : pairCoord (V m c main_v1) = segCoord (m ((c : Thread nD τ).loc main_arg0)) := by
  funext i
  exact congrArg₂ (fun a b : EReal => (a + b) * Ideal.ofBits .f32 0x3F000000#32) (coordPair_lo m c (i 0) (i 1))
    (coordPair_hi m c (i 0) (i 1))

/-- The separators the kernel leaves. -/
theorem seps_value (c : Dev nD) :
    Pipeline.afterTail₀ cfgs (dats m) 0 (V0 m) [hostOps1, hostOps1_1, hostOps1_2] c main_v7
      = halfSeps (m ((c : Thread nD τ).loc main_arg2)) := by
  unfold Pipeline.afterTail₀
  rw [tail_seps, Pipeline.withArrays_of_ne _ c (V0 m c) _ main_arg2 (by exact (by decide : ∀ w, Pipeline.arrRef spec0 w ≠ main_arg2))]
  exact congrArg halfSeps (V_main_arg2 m c)

/-- The segment numbers the kernel leaves. -/
theorem ids_value (c : Dev nD) :
    Pipeline.afterTail₀ cfgs (dats m) 0 (V0 m) [hostOps1, hostOps1_1, hostOps1_2] c main_v8 = pointIds := by
  funext j
  idx_vars j
  unfold Pipeline.afterTail₀
  refine (tail_ids _ j0).trans ?_
  refine (congrFun (Pipeline.withArrays_arr _ launch0.win.arr_inj c (V0 m c) _ 4) _).trans ?_
  rw [final_ids]
  rfl

/-- The kernel's run: its four results as functions of its arguments, the arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c : Thread nD τ).loc main_v2_0) = segFeat (m ((c : Thread nD τ).loc main_arg1))
      ∧ r.2.mem ((c : Thread nD τ).loc main_v2_1) = segCoord (m ((c : Thread nD τ).loc main_arg0))
      ∧ r.2.mem ((c : Thread nD τ).loc main_v7) = halfSeps (m ((c : Thread nD τ).loc main_arg2))
      ∧ r.2.mem ((c : Thread nD τ).loc main_v8) = pointIds
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).1 2).trans ((final_feat m c).trans (feat_value m c)),
      ((h c).1 3).trans ((final_coord m c).trans (coord_value m c)),
      ((h c).2 main_v7 (Pipeline.mem_restRefs_of main_v7 (by decide) (by decide))).trans (seps_value m c),
      ((h c).2 main_v8 (Pipeline.mem_restRefs_of main_v8 (by decide) (by decide))).trans (ids_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Pool

end
-- ==== Proof.lean ====
/-
  The proof of `Cert.Claim`: the three programs leave their arguments unchanged and every semaphore at zero, the idealization of the
  kernel rewrote nothing, and the kernel's four results are the reference's at the ideal floats.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Lib.Quiescent
public import Idealize.ShloMosaic.Init
public import proofs.«01_k».proof.Proof.RefValue
public import proofs.«01_k».proof.Proof.KernelValue

@[expose] public section

set_option maxRecDepth 16384

noncomputable section

namespace Cert.Proof

open Idealize.ShloMosaic Idealize.SL.Sem

/-- The kernel leaves its arguments unchanged and every semaphore at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The reference's maxima are the segments' maxima. -/
theorem refFeat_eq (x : FVec Ideal Cert.ReferenceIdeal.S320000x128 .f32) : Cert.Pool.refFeat Cert.Pool.segIds x = Cert.Pool.segFeat x := by
  funext i
  rw [eq_ix2 i]
  exact Cert.Pool.refFeat_apply x (i 0) (i 1)

/-- The reference's means are the segments' means. -/
theorem refCoord_eq (x : FVec Ideal Cert.ReferenceIdeal.S320000x3 .f32) : Cert.Pool.refCoord Cert.Pool.segIds x = Cert.Pool.segCoord x := by
  funext i
  rw [eq_ix2 i]
  exact Cert.Pool.refCoord_apply x (i 0) (i 1)

/-- The reference's segment ids are the points' segment numbers. -/
theorem segIds_eq : Cert.Pool.segIds = Cert.Pool.pointIds := by
  funext j
  rw [eq_ix1 j]
  exact Cert.Pool.segIds_apply (j 0)

/-- On the same arguments the kernel's four results are the reference's. -/
theorem algebraic : Cert.algebraic_KernelIdeal_ReferenceIdeal := by
  intro m ρ m' ρ' _ hagree
  refine ⟨fun c => Cert.Pool.segFeat (m (c.tc.loc Cert.KernelIdeal.main_arg1)),
    fun c => Cert.Pool.segCoord (m (c.tc.loc Cert.KernelIdeal.main_arg0)),
    fun c => Cert.Pool.halfSeps (m (c.tc.loc Cert.KernelIdeal.main_arg2)), fun _ => Cert.Pool.pointIds,
    Cert.Pool.kernel_run m ρ, ?_⟩
  refine (θ_run Cert.ReferenceIdeal.defs _ _).mono (fun r h c => ?_) (Cert.ReferenceIdeal.Value.run (F := Ideal) m' ρ')
  obtain ⟨h0, h1, h2, h3, ha⟩ := h c
  obtain ⟨e0, e1, e2⟩ := hagree c
  refine ⟨h0.trans ?_, h1.trans ?_, h2.trans ?_, h3.trans segIds_eq, ha⟩
  · exact (refFeat_eq _).trans (congrArg Cert.Pool.segFeat e1)
  · exact (refCoord_eq _).trans (congrArg Cert.Pool.segCoord e0)
  · exact congrArg Cert.Pool.halfSeps e2

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
